-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x1792 : Shape := ⟨3, ![3, 2048, 1792]⟩
abbrev S3x2048x1 : Shape := ⟨3, ![3, 2048, 1]⟩
abbrev S1792x11392 : Shape := ⟨2, ![1792, 11392]⟩
abbrev S11392 : Shape := ⟨1, ![11392]⟩
abbrev S6144x1792 : Shape := ⟨2, ![6144, 1792]⟩
abbrev S6144x1 : Shape := ⟨2, ![6144, 1]⟩
abbrev S89x1x128 : Shape := ⟨3, ![89, 1, 128]⟩
abbrev S6144x11392 : Shape := ⟨2, ![6144, 11392]⟩
abbrev S1792x128 : Shape := ⟨2, ![1792, 128]⟩
abbrev S1x1x128 : Shape := ⟨3, ![1, 1, 128]⟩
abbrev S6144x128 : Shape := ⟨2, ![6144, 128]⟩
abbrev S1792x256 : Shape := ⟨2, ![1792, 256]⟩
abbrev S1x128 : Shape := ⟨2, ![1, 128]⟩
abbrev S512x1792 : Shape := ⟨2, ![512, 1792]⟩
abbrev S512x256 : Shape := ⟨2, ![512, 256]⟩
abbrev S512x1 : Shape := ⟨2, ![512, 1]⟩
abbrev S512x128 : Shape := ⟨2, ![512, 128]⟩
abbrev S3x2048x11392 : Shape := ⟨3, ![3, 2048, 11392]⟩

abbrev nBuf : Space → Nat
  | .hbm => 12
  | .vmem => 12
  | .smem => 0
  | _ => 0

abbrev bufTy : (tb : Table) → Fin (tcTables nBuf tb) → BufTy
  | .hbm, ⟨0, _⟩ => ⟨S3x2048x1792, .fp8e4m3⟩
  | .hbm, ⟨1, _⟩ => ⟨S3x2048x1, .f32⟩
  | .hbm, ⟨2, _⟩ => ⟨S1792x11392, .fp8e4m3⟩
  | .hbm, ⟨3, _⟩ => ⟨S11392, .f32⟩
  | .hbm, ⟨4, _⟩ => ⟨S1792x11392, .fp8e4m3⟩
  | .hbm, ⟨5, _⟩ => ⟨S11392, .f32⟩
  | .hbm, ⟨6, _⟩ => ⟨S6144x1792, .fp8e4m3⟩
  | .hbm, ⟨7, _⟩ => ⟨S6144x1, .f32⟩
  | .hbm, ⟨8, _⟩ => ⟨S89x1x128, .f32⟩
  | .hbm, ⟨9, _⟩ => ⟨S89x1x128, .f32⟩
  | .hbm, ⟨10, _⟩ => ⟨S6144x11392, .bf16⟩
  | .hbm, ⟨11, _⟩ => ⟨S3x2048x11392, .bf16⟩
  | .local _ .vmem, ⟨0, _⟩ => ⟨S6144x1792, .fp8e4m3⟩
  | .local _ .vmem, ⟨1, _⟩ => ⟨S6144x1, .f32⟩
  | .local _ .vmem, ⟨2, _⟩ => ⟨S1792x128, .fp8e4m3⟩
  | .local _ .vmem, ⟨3, _⟩ => ⟨S1792x128, .fp8e4m3⟩
  | .local _ .vmem, ⟨4, _⟩ => ⟨S1x1x128, .f32⟩
  | .local _ .vmem, ⟨5, _⟩ => ⟨S1x1x128, .f32⟩
  | .local _ .vmem, ⟨6, _⟩ => ⟨S1792x128, .fp8e4m3⟩
  | .local _ .vmem, ⟨7, _⟩ => ⟨S1792x128, .fp8e4m3⟩
  | .local _ .vmem, ⟨8, _⟩ => ⟨S1x1x128, .f32⟩
  | .local _ .vmem, ⟨9, _⟩ => ⟨S1x1x128, .f32⟩
  | .local _ .vmem, ⟨10, _⟩ => ⟨S6144x128, .bf16⟩
  | .local _ .vmem, ⟨11, _⟩ => ⟨S6144x128, .bf16⟩
  | _, _ => ⟨S3x2048x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![89], ![false]⟩

@[reducible] def k0_t1_loop : Scf.Loop 32 :=
  let c0_i32 : BitVec 32 := 0#32
  let c12_i32 : BitVec 32 := 12#32
  let v7 : BitVec 32 := Scalar.addi c0_i32 c12_i32
  let c1_i32 : BitVec 32 := 1#32
  ⟨c0_i32, v7, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v8 : BitVec 32 := Scalar.muli arg8 c512_i32
  let v9 : Index := Scalar.indexCast v8
  let c0_10 : Index := 0#32
  ![v9.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v8 : BitVec 32 := Scalar.muli arg8 c512_i32
  let v13 : Index := Scalar.indexCast v8
  let c0_11 : Index := 0#32
  ![v13.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v8 : BitVec 32 := Scalar.muli arg8 c512_i32
  let v30 : Index := Scalar.indexCast v8
  let c0_12 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S6144x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6144x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x2048x1792 : Shape := ⟨3, ![3, 2048, 1792]⟩
abbrev S3x2048x1 : Shape := ⟨3, ![3, 2048, 1]⟩
abbrev S1792x11392 : Shape := ⟨2, ![1792, 11392]⟩
abbrev S11392 : Shape := ⟨1, ![11392]⟩
abbrev S3x2048x11392 : Shape := ⟨3, ![3, 2048, 11392]⟩
abbrev S1x1x11392 : Shape := ⟨3, ![1, 1, 11392]⟩

abbrev nBuf : Space → Nat
  | .hbm => 7
  | .vmem => 7
  | .smem => 0
  | _ => 0

abbrev bufTy : (tb : Table) → Fin (tcTables nBuf tb) → BufTy
  | .hbm, ⟨0, _⟩ => ⟨S3x2048x1792, .fp8e4m3⟩
  | .hbm, ⟨1, _⟩ => ⟨S3x2048x1, .f32⟩
  | .hbm, ⟨2, _⟩ => ⟨S1792x11392, .fp8e4m3⟩
  | .hbm, ⟨3, _⟩ => ⟨S11392, .f32⟩
  | .hbm, ⟨4, _⟩ => ⟨S1792x11392, .fp8e4m3⟩
  | .hbm, ⟨5, _⟩ => ⟨S11392, .f32⟩
  | .hbm, ⟨6, _⟩ => ⟨S3x2048x11392, .bf16⟩
  | .local _ .vmem, ⟨0, _⟩ => ⟨S3x2048x1792, .fp8e4m3⟩
  | .local _ .vmem, ⟨1, _⟩ => ⟨S3x2048x1, .f32⟩
  | .local _ .vmem, ⟨2, _⟩ => ⟨S1792x11392, .fp8e4m3⟩
  | .local _ .vmem, ⟨3, _⟩ => ⟨S11392, .f32⟩
  | .local _ .vmem, ⟨4, _⟩ => ⟨S1792x11392, .fp8e4m3⟩
  | .local _ .vmem, ⟨5, _⟩ => ⟨S11392, .f32⟩
  | .local _ .vmem, ⟨6, _⟩ => ⟨S3x2048x11392, .bf16⟩
  | _, _ => ⟨S3x2048x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x2048x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x11392 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11392 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x11392 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11392 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2048x11392 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelPieces.lean ====
/- What the kernel's body stores: the loop's trips each store one piece, 512 rows of the output block, and nothing else
   is stored. -/
module

public import proofs.«01_k».proof.Proof.Gen.KernelIdeal.Frame
public import Idealize.ShloMosaic.Lib.Pipeline.Value

@[expose] public section

set_option maxRecDepth 16384

noncomputable section

namespace Cert.KernelIdeal.Swiglu

open Cert.KernelIdeal Cert.KernelIdeal.Gen Idealize.ShloMosaic Idealize.ShloMosaic.TcCoe Idealize.ShloMosaic.Tactic Idealize.SL.Sem

variable {F : FTy → Type} [FloatOps F]

/-- One trip of the loop stores one piece: its 512 rows of the block, holding the body's result for
    the rows of `x` and `x_scale` it loads. -/
theorem trip_pieces (𝒱 : Variants) (c : Dev nD) (bd : Option 𝒱.V) (i : grid0.Coords) (arg1 : Memref sig .tc .vmem S6144x1792 .fp8e4m3) (harg1 : arg1.IsWhole) (arg2 : Memref sig .tc .vmem S6144x1 .f32) (harg2 : arg2.IsWhole) (arg3 : Memref sig .tc .vmem S1792x128 .fp8e4m3) (harg3 : arg3.IsWhole) (arg4 : Memref sig .tc .vmem S1x1x128 .f32) (harg4 : arg4.IsWhole) (arg5 : Memref sig .tc .vmem S1792x128 .fp8e4m3) (harg5 : arg5.IsWhole) (arg6 : Memref sig .tc .vmem S1x1x128 .f32) (harg6 : arg6.IsWhole) (arg7 : Memref sig .tc .vmem S6144x128 .bf16) (harg7 : arg7.IsWhole) (v0 : Vec F S1792x128 .fp8e4m3) (v1 : Vec F S1792x128 .fp8e4m3) (v3 : Vec F S1x1x128 .f32) (v5 : Vec F S1x1x128 .f32) (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 v0 v1 v3 v5 X1 X2 k
      = [⟨Rect.unit (s := S6144x128) (k0_off3 k) S512x128.size (k0_off3_inb k),
          k0_pay1 v0 v1 v3 v5
            (arg1.view.readAt (Elt F) (Rect.unit (s := S6144x1792) (k0_off1 k) S512x1792.size (k0_off1_inb k)).toLoadRect X1)
            (arg2.view.readAt (Elt F) (Rect.unit (s := S6144x1) (k0_off2 k) S512x1.size (k0_off2_inb k)).toLoadRect X2)⟩] := by
  unfold tripL_k0_t1 trip_k0_t1
  rfl

/-- Every piece among those of the first `n` trips is the piece of some trip. -/
theorem mem_pieces (𝒱 : Variants) (c : Dev nD) (bd : Option 𝒱.V) (i : grid0.Coords) (arg1 : Memref sig .tc .vmem S6144x1792 .fp8e4m3) (harg1 : arg1.IsWhole) (arg2 : Memref sig .tc .vmem S6144x1 .f32) (harg2 : arg2.IsWhole) (arg3 : Memref sig .tc .vmem S1792x128 .fp8e4m3) (harg3 : arg3.IsWhole) (arg4 : Memref sig .tc .vmem S1x1x128 .f32) (harg4 : arg4.IsWhole) (arg5 : Memref sig .tc .vmem S1792x128 .fp8e4m3) (harg5 : arg5.IsWhole) (arg6 : Memref sig .tc .vmem S1x1x128 .f32) (harg6 : arg6.IsWhole) (arg7 : Memref sig .tc .vmem S6144x128 .bf16) (harg7 : arg7.IsWhole) (v0 : Vec F S1792x128 .fp8e4m3) (v1 : Vec F S1792x128 .fp8e4m3) (v3 : Vec F S1x1x128 .f32) (v5 : Vec F S1x1x128 .f32) (X1 : BufTy.Contents (Elt F) arg1.view.ty) (X2 : BufTy.Contents (Elt F) arg2.view.ty)
    (p : View.Piece (Elt F) S6144x128 .bf16) :
    ∀ n : ℕ, n ≤ k0_t1_loop.trips →
      p ∈ pb_k0_t1 (F := F) 𝒱 c bd i arg1 harg1 arg2 harg2 arg3 harg3 arg4 harg4 arg5 harg5 arg6 harg6 arg7 harg7 v0 v1 v3 v5 X1 X2 n →
      ∃ k : Fin k0_t1_loop.trips, p = ⟨Rect.unit (s := S6144x128) (k0_off3 k) S512x128.size (k0_off3_inb k),
          k0_pay1 v0 v1 v3 v5
            (arg1.view.readAt (Elt F) (Rect.unit (s := S6144x1792) (k0_off1 k) S512x1792.size (k0_off1_inb k)).toLoadRect X1)
            (arg2.view.readAt (Elt F) (Rect.unit (s := S6144x1) (k0_off2 k) S512x1.size (k0_off2_inb k)).toLoadRect X2)⟩
  | 0, _, h => by
    unfold pb_k0_t1 at h
    exact absurd h List.not_mem_nil
  | n + 1, hn, h => by
    rw [pb_k0_t1_succ 𝒱 c bd i arg1 harg1 arg2 harg2 arg3 harg3 arg4 harg4 arg5 harg5 arg6 harg6 arg7 harg7 v0 v1 v3 v5 X1 X2 ⟨n, hn⟩] at h
    rcases List.mem_append.mp h with h | h
    · rw [trip_pieces] at h
      exact ⟨_, List.mem_singleton.mp h⟩
    · exact mem_pieces 𝒱 c bd i arg1 harg1 arg2 harg2 arg3 harg3 arg4 harg4 arg5 harg5 arg6 harg6 arg7 harg7 v0 v1 v3 v5 X1 X2 p n (Nat.le_of_succ_le hn) h

/-- The offsets of a load of a whole matrix. -/
theorem hz2 : (![0, 0] : Fin 2 → Nat) = fun _ => 0 := by decide

/-- The offsets of a load of a whole rank-3 block. -/
theorem hz3 : (![0, 0, 0] : Fin 3 → Nat) = fun _ => 0 := by decide

/-- What the body writes is the pieces of the loop's trips, over the weight blocks and scales it
    loads once. -/
theorem run_pieces (c : Dev nD) (i : grid0.Coords) (arg1 : Memref sig .tc .vmem S6144x1792 .fp8e4m3) (harg1 : arg1.IsWhole) (arg2 : Memref sig .tc .vmem S6144x1 .f32) (harg2 : arg2.IsWhole) (arg3 : Memref sig .tc .vmem S1792x128 .fp8e4m3) (harg3 : arg3.IsWhole) (arg4 : Memref sig .tc .vmem S1x1x128 .f32) (harg4 : arg4.IsWhole) (arg5 : Memref sig .tc .vmem S1792x128 .fp8e4m3) (harg5 : arg5.IsWhole) (arg6 : Memref sig .tc .vmem S1x1x128 .f32) (harg6 : arg6.IsWhole) (arg7 : Memref sig .tc .vmem S6144x128 .bf16) (harg7 : arg7.IsWhole)
    (x0 : Vec F S6144x1792 .fp8e4m3) (x1 : Vec F S6144x1 .f32) (x2 : Vec F S1792x128 .fp8e4m3) (x3 : Vec F S1x1x128 .f32) (x4 : Vec F S1792x128 .fp8e4m3) (x5 : Vec F S1x1x128 .f32)
    (p : View.Piece (Elt F) S6144x128 .bf16)
    (hp : p ∈ (kernelRun0_A c i arg1 harg1 arg2 harg2 arg3 harg3 arg4 harg4 arg5 harg5 arg6 harg6 arg7 harg7 x0 x1 x2 x3 x4 x5).1) :
    ∃ k : Fin k0_t1_loop.trips, p = ⟨Rect.unit (s := S6144x128) (k0_off3 k) S512x128.size (k0_off3_inb k),
          k0_pay1 x2 x4 x3 x5
            (View.ld x0 (Rect.unit (s := S6144x1792) (k0_off1 k) S512x1792.size (k0_off1_inb k)))
            (View.ld x1 (Rect.unit (s := S6144x1) (k0_off2 k) S512x1.size (k0_off2_inb k)))⟩ := by
  unfold kernelRun0_A at hp
  obtain ⟨k, hk⟩ := mem_pieces _ _ _ _ arg1 harg1 arg2 harg2 arg3 harg3 arg4 harg4 arg5 harg5 arg6 harg6 arg7 harg7 _ _ _ _ _ _ p _ le_rfl hp
  refine ⟨k, hk.trans ?_⟩
  simp only [View.readAt_eq_ld, harg1.read_unread, harg2.read_unread, harg3.read_unread, harg4.read_unread,
    harg5.read_unread, harg6.read_unread]
  rw [View.ld_unit_zero hz2, View.ld_unit_zero hz2, View.ld_unit_zero hz3, View.ld_unit_zero hz3]

end Cert.KernelIdeal.Swiglu

end
-- ==== Proof.KernelArray.lean ====
/- What one block of the kernel computes, as a function of its six input blocks over the extended reals, and from it the
   whole output array as a function of the six arrays that the call is given. -/
module

public import proofs.«01_k».proof.Proof.KernelPieces
public import Idealize.ShloMosaic.Lib.Pipeline.ValueKit
public import Idealize.ShloMosaic.Lib.Pointwise

@[expose] public section

set_option maxRecDepth 16384

noncomputable section

namespace Cert.KernelIdeal.Swiglu

open Cert.KernelIdeal Cert.KernelIdeal.Gen Idealize.ShloMosaic Idealize.ShloMosaic.TcCoe Idealize.SL.Sem

/-- One element of the result, from the row's dot products with a gate column and an up column, the
    row's scale and the two columns' scales: `silu(gate) * up`. -/
def elt (dg du xs sg su : EReal) : EReal :=
  dg * xs * sg * Ideal.logistic (dg * xs * sg) * (du * xs * su)

/-- The block of the result that the body makes of its six input blocks. -/
def block (x0 : Vec Ideal S6144x1792 .fp8e4m3) (x1 : Vec Ideal S6144x1 .f32) (x2 : Vec Ideal S1792x128 .fp8e4m3)
    (x3 : Vec Ideal S1x1x128 .f32) (x4 : Vec Ideal S1792x128 .fp8e4m3) (x5 : Vec Ideal S1x1x128 .f32) : Vec Ideal S6144x128 .bf16 :=
  fun y => elt (∑ k : Fin 1792, x0 (ix2 (y 0) k) * x2 (ix2 k (y 1))) (∑ k : Fin 1792, x0 (ix2 (y 0) k) * x4 (ix2 k (y 1)))
    (x1 (ix2 (y 0) 0)) (x3 (ix3 0 0 (y 1))) (x5 (ix3 0 0 (y 1)))

/-- The whole array of the result, from the six arrays as the kernel is given them. -/
def array (a0 : Vec Ideal S6144x1792 .fp8e4m3) (a1 : Vec Ideal S6144x1 .f32) (a2 : Vec Ideal S1792x11392 .fp8e4m3)
    (a3 : Vec Ideal S89x1x128 .f32) (a4 : Vec Ideal S1792x11392 .fp8e4m3) (a5 : Vec Ideal S89x1x128 .f32) : Vec Ideal S6144x11392 .bf16 :=
  fun y => elt (∑ k : Fin 1792, a0 (ix2 (y 0) k) * a2 (ix2 k (y 1))) (∑ k : Fin 1792, a0 (ix2 (y 0) k) * a4 (ix2 k (y 1)))
    (a1 (ix2 (y 0) 0))
    (a3 (ix3 ⟨(y 1).val / 128, Nat.div_lt_of_lt_mul (y 1).isLt⟩ 0 ⟨(y 1).val % 128, Nat.mod_lt _ (by decide)⟩))
    (a5 (ix3 ⟨(y 1).val / 128, Nat.div_lt_of_lt_mul (y 1).isLt⟩ 0 ⟨(y 1).val % 128, Nat.mod_lt _ (by decide)⟩))

/-- What a trip stores is the block's rows that its rectangle names. -/
theorem pay_apply (x0 : Vec Ideal S6144x1792 .fp8e4m3) (x1 : Vec Ideal S6144x1 .f32) (x2 : Vec Ideal S1792x128 .fp8e4m3)
    (x3 : Vec Ideal S1x1x128 .f32) (x4 : Vec Ideal S1792x128 .fp8e4m3) (x5 : Vec Ideal S1x1x128 .f32)
    (k : Fin k0_t1_loop.trips) (j : S512x128.Idx) :
    k0_pay1 x2 x4 x3 x5 (View.ld x0 (Rect.unit (s := S6144x1792) (k0_off1 k) S512x1792.size (k0_off1_inb k)))
        (View.ld x1 (Rect.unit (s := S6144x1) (k0_off2 k) S512x1.size (k0_off2_inb k))) j
      = block x0 x1 x2 x3 x4 x5 ((Rect.unit (s := S6144x128) (k0_off3 k) S512x128.size (k0_off3_inb k)).emb j) := by
  idx_vars j
  have hk : k.val < 12 := Nat.lt_of_lt_of_le k.isLt k0_t1_abs.2.1
  have e10 : k0_off1 k 0 = 512 * k.val := congrFun (k0_off1_eq k) 0
  have e11 : k0_off1 k 1 = 0 := congrFun (k0_off1_eq k) 1
  have e20 : k0_off2 k 0 = 512 * k.val := congrFun (k0_off2_eq k) 0
  have e30 : k0_off3 k 0 = 512 * k.val := congrFun (k0_off3_eq k) 0
  have e31 : k0_off3 k 1 = 0 := congrFun (k0_off3_eq k) 1
  have he : (Rect.unit (s := S6144x128) (k0_off3 k) S512x128.size (k0_off3_inb k)).emb (ix2 j0 j1)
      = (ix2 ⟨512 * k.val + j0.val, by omega⟩ j1 : S6144x128.Idx) := by
    funext a; apply Fin.ext
    match a with
    | ⟨0, _⟩ => show k0_off3 k 0 + 1 * j0.val = 512 * k.val + j0.val; omega
    | ⟨1, _⟩ => show k0_off3 k 1 + 1 * j1.val = j1.val; omega
  rw [he]
  pointwise [k0_pay1, block, elt]
  have e21 : k0_off2 k 1 = 0 := congrFun (k0_off2_eq k) 1
  simp only [e10, e11, e20, e21, Nat.zero_add, Fin.eta]
  rfl

/-- What the body leaves in the output's staging buffer is `block` of the input blocks. -/
theorem out_eq (c : Dev nD) (i : grid0.Coords) (arg1 : Memref sig .tc .vmem S6144x1792 .fp8e4m3) (harg1 : arg1.IsWhole) (arg2 : Memref sig .tc .vmem S6144x1 .f32) (harg2 : arg2.IsWhole) (arg3 : Memref sig .tc .vmem S1792x128 .fp8e4m3) (harg3 : arg3.IsWhole) (arg4 : Memref sig .tc .vmem S1x1x128 .f32) (harg4 : arg4.IsWhole) (arg5 : Memref sig .tc .vmem S1792x128 .fp8e4m3) (harg5 : arg5.IsWhole) (arg6 : Memref sig .tc .vmem S1x1x128 .f32) (harg6 : arg6.IsWhole) (arg7 : Memref sig .tc .vmem S6144x128 .bf16) (harg7 : arg7.IsWhole)
    (x0 : Vec Ideal S6144x1792 .fp8e4m3) (x1 : Vec Ideal S6144x1 .f32) (x2 : Vec Ideal S1792x128 .fp8e4m3) (x3 : Vec Ideal S1x1x128 .f32) (x4 : Vec Ideal S1792x128 .fp8e4m3) (x5 : Vec Ideal S1x1x128 .f32) :
    out0_A_6 c i arg1 harg1 arg2 harg2 arg3 harg3 arg4 harg4 arg5 harg5 arg6 harg6 arg7 harg7 x0 x1 x2 x3 x4 x5 = block x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces _ _ (fun p hp x => ?_) y (cover0_A_6 c i arg1 harg1 arg2 harg2 arg3 harg3 arg4 harg4 arg5 harg5 arg6 harg6 arg7 harg7 x0 x1 x2 x3 x4 x5 y)
  obtain ⟨k, rfl⟩ := run_pieces c i arg1 harg1 arg2 harg2 arg3 harg3 arg4 harg4 arg5 harg5 arg6 harg6 arg7 harg7 x0 x1 x2 x3 x4 x5 p hp
  exact pay_apply x0 x1 x2 x3 x4 x5 k x

variable (m : (ℓ : Loc nD τ sig) → Buf (Elt Ideal) ℓ)

/-- The block indices of the seven windows at every grid point: the first two inputs are one block,
    the others and the output are the point's own column block. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = t.val
    ∧ win0_5.index t (0 : Fin 3) = t.val ∧ win0_5.index t (1 : Fin 3) = 0 ∧ win0_5.index t (2 : Fin 3) = 0
    ∧ win0_6.index t (0 : Fin 2) = 0 ∧ win0_6.index t (1 : Fin 2) = t.val :=
  (by decide +kernel : ∀ t : Fin grid0.N, _)

/-- There are 89 grid points. -/
theorem t_lt (t : Fin cfg0.N) : t.val < 89 := N_0 ▸ t.isLt

/-- The activations' block is the whole array. -/
theorem iblk0_apply (c : Dev nD) (t : Fin cfg0.N) (r : Fin 6144) (k : Fin 1792) :
    iblk m c 0 t (ix2 r k : S6144x1792.Idx) = V m c main_v0 (ix2 r k : S6144x1792.Idx) := by
  have e := idx_facts t
  refine congrArg (V m c main_v0) (?_ : ((cfg0.win 0).blk t).view.emb (ix2 r k : S6144x1792.Idx) = (ix2 r k : S6144x1792.Idx))
  funext a; apply Fin.ext
  match a with
  | ⟨0, _⟩ => show win0_0.index t (0 : Fin 2) * 6144 + 1 * r.val = r.val; omega
  | ⟨1, _⟩ => show win0_0.index t (1 : Fin 2) * 1792 + 1 * k.val = k.val; omega

/-- The row scales' block is the whole array. -/
theorem iblk1_apply (c : Dev nD) (t : Fin cfg0.N) (r : Fin 6144) (k : Fin 1) :
    iblk m c 1 t (ix2 r k : S6144x1.Idx) = V m c main_v1 (ix2 r k : S6144x1.Idx) := by
  have e := idx_facts t
  refine congrArg (V m c main_v1) (?_ : ((cfg0.win 1).blk t).view.emb (ix2 r k : S6144x1.Idx) = (ix2 r k : S6144x1.Idx))
  funext a; apply Fin.ext
  match a with
  | ⟨0, _⟩ => show win0_1.index t (0 : Fin 2) * 6144 + 1 * r.val = r.val; omega
  | ⟨1, _⟩ => show win0_1.index t (1 : Fin 2) * 1 + 1 * k.val = k.val; omega

/-- The gate weights' block at a point is the point's 128 columns. -/
theorem iblk2_apply (c : Dev nD) (t : Fin cfg0.N) (k : Fin 1792) (j : Fin 128) (h : 128 * t.val + j.val < 11392) :
    iblk m c 2 t (ix2 k j : S1792x128.Idx) = V m c main_arg2 (ix2 k ⟨128 * t.val + j.val, h⟩ : S1792x11392.Idx) := by
  have e := idx_facts t
  refine congrArg (V m c main_arg2) (?_ : ((cfg0.win 2).blk t).view.emb (ix2 k j : S1792x128.Idx) = (ix2 k ⟨128 * t.val + j.val, h⟩ : S1792x11392.Idx))
  funext a; apply Fin.ext
  match a with
  | ⟨0, _⟩ => show win0_2.index t (0 : Fin 2) * 1792 + 1 * k.val = k.val; omega
  | ⟨1, _⟩ => show win0_2.index t (1 : Fin 2) * 128 + 1 * j.val = 128 * t.val + j.val; omega

/-- The gate scales' block at a point is the point's row of 128. -/
theorem iblk3_apply (c : Dev nD) (t : Fin cfg0.N) (j : Fin 128) :
    iblk m c 3 t (ix3 0 0 j : S1x1x128.Idx) = V m c main_v2 (ix3 ⟨t.val, t_lt t⟩ 0 j : S89x1x128.Idx) := by
  have e := idx_facts t
  refine congrArg (V m c main_v2) (?_ : ((cfg0.win 3).blk t).view.emb (ix3 0 0 j : S1x1x128.Idx) = (ix3 ⟨t.val, t_lt t⟩ 0 j : S89x1x128.Idx))
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 128 + 1 * j.val = j.val; omega

/-- The up weights' block at a point is the point's 128 columns. -/
theorem iblk4_apply (c : Dev nD) (t : Fin cfg0.N) (k : Fin 1792) (j : Fin 128) (h : 128 * t.val + j.val < 11392) :
    iblk m c 4 t (ix2 k j : S1792x128.Idx) = V m c main_arg4 (ix2 k ⟨128 * t.val + j.val, h⟩ : S1792x11392.Idx) := by
  have e := idx_facts t
  refine congrArg (V m c main_arg4) (?_ : ((cfg0.win 4).blk t).view.emb (ix2 k j : S1792x128.Idx) = (ix2 k ⟨128 * t.val + j.val, h⟩ : S1792x11392.Idx))
  funext a; apply Fin.ext
  match a with
  | ⟨0, _⟩ => show win0_4.index t (0 : Fin 2) * 1792 + 1 * k.val = k.val; omega
  | ⟨1, _⟩ => show win0_4.index t (1 : Fin 2) * 128 + 1 * j.val = 128 * t.val + j.val; omega

/-- The up scales' block at a point is the point's row of 128. -/
theorem iblk5_apply (c : Dev nD) (t : Fin cfg0.N) (j : Fin 128) :
    iblk m c 5 t (ix3 0 0 j : S1x1x128.Idx) = V m c main_v3 (ix3 ⟨t.val, t_lt t⟩ 0 j : S89x1x128.Idx) := by
  have e := idx_facts t
  refine congrArg (V m c main_v3) (?_ : ((cfg0.win 5).blk t).view.emb (ix3 0 0 j : S1x1x128.Idx) = (ix3 ⟨t.val, t_lt t⟩ 0 j : S89x1x128.Idx))
  funext a; apply Fin.ext
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 128 + 1 * j.val = j.val; omega

/-- If the six blocks are the whole of the first two arrays and the `t`-th 128 columns of the other
    four, then `block` of the blocks is the same columns of `array` of the arrays. -/
theorem block_eq_array (x0 : Vec Ideal S6144x1792 .fp8e4m3) (x1 : Vec Ideal S6144x1 .f32) (x2 : Vec Ideal S1792x128 .fp8e4m3)
    (x3 : Vec Ideal S1x1x128 .f32) (x4 : Vec Ideal S1792x128 .fp8e4m3) (x5 : Vec Ideal S1x1x128 .f32)
    (a0 : Vec Ideal S6144x1792 .fp8e4m3) (a1 : Vec Ideal S6144x1 .f32) (a2 : Vec Ideal S1792x11392 .fp8e4m3)
    (a3 : Vec Ideal S89x1x128 .f32) (a4 : Vec Ideal S1792x11392 .fp8e4m3) (a5 : Vec Ideal S89x1x128 .f32)
    (t : Nat) (ht : t < 89) (r : Fin 6144) (j : Fin 128) (h : 128 * t + j.val < 11392)
    (h0 : ∀ k : Fin 1792, x0 (ix2 r k) = a0 (ix2 r k)) (h1 : x1 (ix2 r 0) = a1 (ix2 r 0))
    (h2 : ∀ k : Fin 1792, x2 (ix2 k j) = a2 (ix2 k ⟨128 * t + j.val, h⟩)) (h3 : x3 (ix3 0 0 j) = a3 (ix3 ⟨t, ht⟩ 0 j))
    (h4 : ∀ k : Fin 1792, x4 (ix2 k j) = a4 (ix2 k ⟨128 * t + j.val, h⟩)) (h5 : x5 (ix3 0 0 j) = a5 (ix3 ⟨t, ht⟩ 0 j)) :
    block x0 x1 x2 x3 x4 x5 (ix2 r j) = array a0 a1 a2 a3 a4 a5 (ix2 r ⟨128 * t + j.val, h⟩) := by
  have hq : (128 * t + j.val) / 128 = t := by omega
  have hr : (128 * t + j.val) % 128 = j.val := by omega
  have e3 : a3 (ix3 ⟨(128 * t + j.val) / 128, by omega⟩ 0 ⟨(128 * t + j.val) % 128, by omega⟩) = a3 (ix3 ⟨t, ht⟩ 0 j) := by
    simp only [hq, hr]
  have e5 : a5 (ix3 ⟨(128 * t + j.val) / 128, by omega⟩ 0 ⟨(128 * t + j.val) % 128, by omega⟩) = a5 (ix3 ⟨t, ht⟩ 0 j) := by
    simp only [hq, hr]
  have eg : (∑ k : Fin 1792, x0 (ix2 r k) * x2 (ix2 k j)) = ∑ k : Fin 1792, a0 (ix2 r k) * a2 (ix2 k ⟨128 * t + j.val, h⟩) :=
    Finset.sum_congr rfl fun k _ => by rw [h0, h2]
  have eu : (∑ k : Fin 1792, x0 (ix2 r k) * x4 (ix2 k j)) = ∑ k : Fin 1792, a0 (ix2 r k) * a4 (ix2 k ⟨128 * t + j.val, h⟩) :=
    Finset.sum_congr rfl fun k _ => by rw [h0, h4]
  show elt (∑ k : Fin 1792, x0 (ix2 r k) * x2 (ix2 k j)) (∑ k : Fin 1792, x0 (ix2 r k) * x4 (ix2 k j))
      (x1 (ix2 r 0)) (x3 (ix3 0 0 j)) (x5 (ix3 0 0 j))
    = elt (∑ k : Fin 1792, a0 (ix2 r k) * a2 (ix2 k ⟨128 * t + j.val, h⟩)) (∑ k : Fin 1792, a0 (ix2 r k) * a4 (ix2 k ⟨128 * t + j.val, h⟩))
      (a1 (ix2 r 0)) (a3 (ix3 ⟨(128 * t + j.val) / 128, by omega⟩ 0 ⟨(128 * t + j.val) % 128, by omega⟩))
      (a5 (ix3 ⟨(128 * t + j.val) / 128, by omega⟩ 0 ⟨(128 * t + j.val) % 128, by omega⟩))
  rw [e3, e5, eg, eu, h1, h3, h5]

/-- What a grid point computes of its blocks is its block of `array`. -/
theorem block_apply (c : Dev nD) (t : Fin cfg0.N) (y : S6144x128.Idx) :
    block (iblk m c 0 t) (iblk m c 1 t) (iblk m c 2 t) (iblk m c 3 t) (iblk m c 4 t) (iblk m c 5 t) y
      = array (V m c main_v0) (V m c main_v1) (V m c main_arg2) (V m c main_v2) (V m c main_arg4) (V m c main_v3)
          (((cfg0.win 6).blk t).view.emb y) := by
  idx_vars y
  have e := idx_facts t
  have ht := t_lt t
  have h : 128 * t.val + y1.val < 11392 := by omega
  have he : ((cfg0.win 6).blk t).view.emb (ix2 y0 y1 : S6144x128.Idx) = (ix2 y0 ⟨128 * t.val + y1.val, h⟩ : S6144x11392.Idx) := by
    funext a; apply Fin.ext
    match a with
    | ⟨0, _⟩ => show win0_6.index t (0 : Fin 2) * 6144 + 1 * y0.val = y0.val; omega
    | ⟨1, _⟩ => show win0_6.index t (1 : Fin 2) * 128 + 1 * y1.val = 128 * t.val + y1.val; omega
  refine Eq.trans ?_ (congrArg (array (V m c main_v0) (V m c main_v1) (V m c main_arg2) (V m c main_v2) (V m c main_arg4) (V m c main_v3)) he.symm)
  exact block_eq_array _ _ _ _ _ _ _ _ _ _ _ _ t.val ht y0 y1 h (fun k => iblk0_apply m c t y0 k) (iblk1_apply m c t y0 0)
    (fun k => iblk2_apply m c t k y1 h) (iblk3_apply m c t y1) (fun k => iblk4_apply m c t k y1 h) (iblk5_apply m c t y1)

/-- The output array after the region is `array` of the six arrays the region finds. -/
theorem final (c : Dev nD) : (dats m 0 c).arrAt 6 cfg0.N
    = array (V m c main_v0) (V m c main_v1) (V m c main_arg2) (V m c main_v2) (V m c main_arg4) (V m c main_v3) := by
  refine (dats m 0 c).arrAt_eq_of_covers 6 _ (by decide +kernel) fun t hf y => ?_
  blk_simp
  rw [after0_6]
  unfold outsAt0
  rw [out_eq]
  exact block_apply m c t y

end Cert.KernelIdeal.Swiglu

end
-- ==== Proof.KernelRun.lean ====
/- The whole program: the host's reshapes before the call, the call, and the reshape after it; its result as one function of
   the six arguments. -/
module

public import proofs.«01_k».proof.Proof.KernelArray

@[expose] public section

set_option maxRecDepth 16384

noncomputable section

namespace Cert.KernelIdeal.Swiglu

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The region finds the activations reshaped to a matrix. -/
theorem V_main_v0 (c : Dev nD) : (V m c main_v0 : Vec Ideal S6144x1792 .fp8e4m3)
    = shapeCast S6144x1792 (m ((c : Thread nD τ).loc main_arg0) : Vec Ideal S3x2048x1792 .fp8e4m3) shapeCasts_S3x2048x1792_S6144x1792 := by
  show StableHlo.after (List.flatten [hostOps0]) (fun b => m (c, b)) (Proc.devRef .tc main_v0) = _
  simp only [hostOps0, List.flatten_cons, List.flatten_nil, List.append_nil]
  after_results
  rfl

/-- The region finds the row scales reshaped to a column. -/
theorem V_main_v1 (c : Dev nD) : (V m c main_v1 : Vec Ideal S6144x1 .f32)
    = shapeCast S6144x1 (m ((c : Thread nD τ).loc main_arg1) : Vec Ideal S3x2048x1 .f32) shapeCasts_S3x2048x1_S6144x1 := by
  show StableHlo.after (List.flatten [hostOps0]) (fun b => m (c, b)) (Proc.devRef .tc main_v1) = _
  simp only [hostOps0, List.flatten_cons, List.flatten_nil, List.append_nil]
  after_results
  rfl

/-- The region finds the gate scales reshaped to rows of 128. -/
theorem V_main_v2 (c : Dev nD) : (V m c main_v2 : Vec Ideal S89x1x128 .f32)
    = shapeCast S89x1x128 (m ((c : Thread nD τ).loc main_arg3) : Vec Ideal S11392 .f32) shapeCasts_S11392_S89x1x128 := by
  show StableHlo.after (List.flatten [hostOps0]) (fun b => m (c, b)) (Proc.devRef .tc main_v2) = _
  simp only [hostOps0, List.flatten_cons, List.flatten_nil, List.append_nil]
  after_results
  rfl

/-- The region finds the up scales reshaped to rows of 128. -/
theorem V_main_v3 (c : Dev nD) : (V m c main_v3 : Vec Ideal S89x1x128 .f32)
    = shapeCast S89x1x128 (m ((c : Thread nD τ).loc main_arg5) : Vec Ideal S11392 .f32) shapeCasts_S11392_S89x1x128 := by
  show StableHlo.after (List.flatten [hostOps0]) (fun b => m (c, b)) (Proc.devRef .tc main_v3) = _
  simp only [hostOps0, List.flatten_cons, List.flatten_nil, List.append_nil]
  after_results
  rfl

/-- The program's result as a function of its six arguments: `array` of the reshaped arguments,
    reshaped back. -/
def result (a0 : Vec Ideal S3x2048x1792 .fp8e4m3) (a1 : Vec Ideal S3x2048x1 .f32) (a2 : Vec Ideal S1792x11392 .fp8e4m3)
    (a3 : Vec Ideal S11392 .f32) (a4 : Vec Ideal S1792x11392 .fp8e4m3) (a5 : Vec Ideal S11392 .f32) : Vec Ideal S3x2048x11392 .bf16 :=
  shapeCast S3x2048x11392
    (array (shapeCast S6144x1792 a0 shapeCasts_S3x2048x1792_S6144x1792) (shapeCast S6144x1 a1 shapeCasts_S3x2048x1_S6144x1) a2
      (shapeCast S89x1x128 a3 shapeCasts_S11392_S89x1x128) a4 (shapeCast S89x1x128 a5 shapeCasts_S11392_S89x1x128))
    shapeCasts_S6144x11392_S3x2048x11392

/-- After the host's last line the result buffer holds the reshaped output array. -/
theorem tail_main_v5 (c : Dev nD) :
    (Pipeline.afterTail₀ cfgs (dats m) 0 (V0 m) [hostOps1] c main_v5 : Vec Ideal S3x2048x11392 .bf16)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hA : Pipeline.withArrays spec0 c (V0 m c) (fun w => (dats m 0 c).arrAt w cfg0.N) (Proc.devRef .tc main_v4)
      = (dats m 0 c).arrAt 6 cfg0.N :=
    Pipeline.withArrays_arr spec0 (by decide) c (V0 m c) (fun w => (dats m 0 c).arrAt w cfg0.N) 6
  unfold Pipeline.afterTail₀
  simp only [hostOps1, List.flatten_cons, List.flatten_nil, List.append_nil]
  after_results
  refine (congrArg (fun X : Vec Ideal S6144x11392 .bf16 => shapeCast S3x2048x11392 X shapeCasts_S6144x11392_S3x2048x11392)
    (hA.trans (final m c))).trans ?_
  rw [V_main_v0, V_main_v1, V_main_v2, V_main_v3, V_main_arg2, V_main_arg4]
  rfl

/-- Every run ends with the result buffer at `result` of the arguments, the arguments unchanged. -/
theorem run : θ_run defs (onTc (τ := τ) (main (F := Ideal))) ⟨m, fun _ => 0, ρ⟩ fun r => ∀ c : Dev nD,
      (r.2.mem ((c : Thread nD τ).loc main_v5) : Vec Ideal S3x2048x11392 .bf16)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).2 main_v5 (Pipeline.mem_restRefs_of main_v5 (by decide) (by decide))).trans (tail_main_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.Swiglu

end
-- ==== Proof.Equation.lean ====
/- The equation: the kernel's result and the reference's are the same function of the arguments. -/
module

public import proofs.«01_k».proof.Proof.KernelRun
public import proofs.«01_k».proof.Proof.Gen.ReferenceIdeal.Value

@[expose] public section

set_option maxRecDepth 16384

noncomputable section

namespace Cert.KernelIdeal.Swiglu

open Cert.KernelIdeal Cert.KernelIdeal.Gen Idealize.ShloMosaic

/-- The kernel's result is the reference's, at every index: both read the same row of the activations,
    the same columns of the weights and the same scales, and combine them in the same order. -/
theorem result_eq (a0 : Vec Ideal S3x2048x1792 .fp8e4m3) (a1 : Vec Ideal S3x2048x1 .f32) (a2 : Vec Ideal S1792x11392 .fp8e4m3)
    (a3 : Vec Ideal S11392 .f32) (a4 : Vec Ideal S1792x11392 .fp8e4m3) (a5 : Vec Ideal S11392 .f32) :
    result a0 a1 a2 a3 a4 a5 = Cert.ReferenceIdeal.Value.G6 (F := Ideal) a0 a1 a2 a3 a4 a5 := by
  funext j
  idx_vars j
  pointwise [result, array, elt, Cert.ReferenceIdeal.Value.G6, Cert.ReferenceIdeal.Gen.k0_pay1]

end Cert.KernelIdeal.Swiglu

end
-- ==== Proof.lean ====
/- The proof of the certificate's claims: the frames of the kernel, of its idealization and of the reference's
   idealization, that the ideal kernel preserves the kernel, and that kernel and reference agree over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- At the extended reals the kernel and the reference, run from memories that agree on the six
    arguments, end with the same result array, the arguments unchanged. -/
theorem algebraic : algebraic_KernelIdeal_ReferenceIdeal := by
  intro m g m' g' _ hag
  refine ⟨fun c => Cert.KernelIdeal.Swiglu.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Swiglu.run m g, (θ_run _ _ _).mono (fun r h c => ⟨(h c).1.trans ?_, (h c).2⟩) (Cert.ReferenceIdeal.Value.run m' g')⟩
  obtain ⟨h0, h1, h2, h3, h4, h5⟩ := hag c
  rw [h0, h1, h2, h3, h4, h5]
  exact (Cert.KernelIdeal.Swiglu.result_eq _ _ _ _ _ _).symm

/-- The five claims: the three programs' frames, the idealized kernel's preservation, and the equation. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
